-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S8192x8192 : Shape := ⟨2, ![8192, 8192]⟩
abbrev S8192 : Shape := ⟨1, ![8192]⟩
abbrev S128x8192 : Shape := ⟨2, ![128, 8192]⟩
abbrev S1x8192 : Shape := ⟨2, ![1, 8192]⟩
abbrev S8192x512 : Shape := ⟨2, ![8192, 512]⟩
abbrev S1x512 : Shape := ⟨2, ![1, 512]⟩
abbrev S128x512 : Shape := ⟨2, ![128, 512]⟩

abbrev nBuf : Space → Nat
  | .hbm => 7
  | .vmem => 7
  | .smem => 0
  | _ => 0

abbrev bufTy : (tb : Table) → Fin (tcTables nBuf tb) → BufTy
  | .hbm, ⟨0, _⟩ => ⟨S128x1x8192, .bf16⟩
  | .hbm, ⟨1, _⟩ => ⟨S8192x8192, .i8⟩
  | .hbm, ⟨2, _⟩ => ⟨S8192, .f32⟩
  | .hbm, ⟨3, _⟩ => ⟨S128x8192, .bf16⟩
  | .hbm, ⟨4, _⟩ => ⟨S1x8192, .f32⟩
  | .hbm, ⟨5, _⟩ => ⟨S128x8192, .bf16⟩
  | .hbm, ⟨6, _⟩ => ⟨S128x1x8192, .bf16⟩
  | .local _ .vmem, ⟨0, _⟩ => ⟨S128x8192, .bf16⟩
  | .local _ .vmem, ⟨1, _⟩ => ⟨S8192x512, .i8⟩
  | .local _ .vmem, ⟨2, _⟩ => ⟨S8192x512, .i8⟩
  | .local _ .vmem, ⟨3, _⟩ => ⟨S1x512, .f32⟩
  | .local _ .vmem, ⟨4, _⟩ => ⟨S1x512, .f32⟩
  | .local _ .vmem, ⟨5, _⟩ => ⟨S128x512, .bf16⟩
  | .local _ .vmem, ⟨6, _⟩ => ⟨S128x512, .bf16⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x1x8192 : Shape := ⟨3, ![128, 1, 8192]⟩
abbrev S8192x8192 : Shape := ⟨2, ![8192, 8192]⟩
abbrev S8192 : Shape := ⟨1, ![8192]⟩
abbrev S1x1x8192 : Shape := ⟨3, ![1, 1, 8192]⟩

abbrev nBuf : Space → Nat
  | .hbm => 9
  | .vmem => 2
  | .smem => 0
  | _ => 0

abbrev bufTy : (tb : Table) → Fin (tcTables nBuf tb) → BufTy
  | .hbm, ⟨0, _⟩ => ⟨S128x1x8192, .bf16⟩
  | .hbm, ⟨1, _⟩ => ⟨S8192x8192, .i8⟩
  | .hbm, ⟨2, _⟩ => ⟨S8192, .f32⟩
  | .hbm, ⟨3, _⟩ => ⟨S8192x8192, .bf16⟩
  | .hbm, ⟨4, _⟩ => ⟨S128x1x8192, .f32⟩
  | .hbm, ⟨5, _⟩ => ⟨S1x1x8192, .f32⟩
  | .hbm, ⟨6, _⟩ => ⟨S128x1x8192, .f32⟩
  | .hbm, ⟨7, _⟩ => ⟨S128x1x8192, .f32⟩
  | .hbm, ⟨8, _⟩ => ⟨S128x1x8192, .bf16⟩
  | .local _ .vmem, ⟨0, _⟩ => ⟨S8192x8192, .i8⟩
  | .local _ .vmem, ⟨1, _⟩ => ⟨S8192x8192, .bf16⟩
  | _, _ => ⟨S128x1x8192, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x8192 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelValue.lean ====
/-
  What the kernel's result array holds after a run, at the ideal values: each of the 16 grid points writes one
  block of 512 columns, and every block is that block of ONE whole-array function, `scaled`.
-/
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.StableHlo.Run

@[expose] public section

noncomputable section

open Idealize.ShloMosaic Idealize.ShloMosaic.TcCoe Idealize.SL.Sem
open Idealize.ShloMosaic.Pipeline (Dat)
open scoped BigOperators

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The layer on whole arrays: row `i 0` of `X` times column `i 1` of `W` read as numbers, times that column's scale. -/
def scaled (X : FVec Ideal S128x8192 .bf16) (W : IVec S8192x8192 8) (S : FVec Ideal S1x8192 .f32) :
    FVec Ideal S128x8192 .bf16 := fun i =>
  (∑ k : Fin 8192, X (ix2 (i 0) k) * (((W (ix2 k (i 1))).toInt : ℝ) : EReal)) * S (ix2 0 (i 1))

/-- ONE BLOCK: the body's payload at an index is the same formula of the three loaded blocks. -/
theorem pay_apply (x : Vec Ideal S128x8192 .bf16) (w : Vec Ideal S8192x512 .i8) (s : Vec Ideal S1x512 .f32)
    (r : Fin 128) (l : Fin 512) :
    k0_pay1 (F := Ideal) x w s (ix2 r l)
      = (∑ k : Fin 8192, x (ix2 r k) * (((w (ix2 k l)).toInt : ℝ) : EReal)) * s (ix2 0 l) := by
  pointwise [k0_pay1]
  rfl

/-! ## The blocks of the windows, element by element -/

/-- Grid point `t` is its only coordinate. -/
theorem coord_val (t : Fin cfg0.N) : ((grid0.coords t) 0).val = t.val := by
  rcases fin_N0 t with h | h | h | h | h | h | h | h | h | h | h | h | h | h | h | h <;> subst h <;> decide +kernel

/-- The block index of window 1 (the weight) at point `t`: row block 0, column block `t`; -/
theorem idx1 (t : Fin cfg0.N) : win0_1.index t 0 = 0 ∧ win0_1.index t 1 = t.val := by
  rcases fin_N0 t with h | h | h | h | h | h | h | h | h | h | h | h | h | h | h | h <;> subst h <;> decide +kernel
/-- of window 2 (the scale) the same; -/
theorem idx2 (t : Fin cfg0.N) : win0_2.index t 0 = 0 ∧ win0_2.index t 1 = t.val := by
  rcases fin_N0 t with h | h | h | h | h | h | h | h | h | h | h | h | h | h | h | h <;> subst h <;> decide +kernel
/-- of window 3 (the result) the same; -/
theorem idx3 (t : Fin cfg0.N) : win0_3.index t 0 = 0 ∧ win0_3.index t 1 = t.val := by
  rcases fin_N0 t with h | h | h | h | h | h | h | h | h | h | h | h | h | h | h | h <;> subst h <;> decide +kernel
/-- of window 0 (the activations) always the whole array. -/
theorem idx0 (t : Fin cfg0.N) : win0_0.index t 0 = 0 ∧ win0_0.index t 1 = 0 := by
  rcases fin_N0 t with h | h | h | h | h | h | h | h | h | h | h | h | h | h | h | h <;> subst h <;> decide +kernel

/-- Column `l` of block `t` is column `512 t + l` of the whole array. -/
def col (t : Fin cfg0.N) (l : Fin 512) : Fin 8192 := ⟨t.val * 512 + l.val, by
  have := t.isLt; have hN : cfg0.N = 16 := N_0; omega⟩

theorem emb0 (t : Fin cfg0.N) (r : Fin 128) (k : Fin 8192) : (win0_0.rect t).emb (ix2 r k) = ix2 r k := by
  funext a; apply Fin.ext
  match a with
  | ⟨0, _⟩ => exact (win0_0.rect_emb_val t (ix2 r k) 0).trans (by rw [(idx0 t).1]; exact (congrArg (· + r.val) (Nat.zero_mul _)).trans (Nat.zero_add _))
  | ⟨1, _⟩ => exact (win0_0.rect_emb_val t (ix2 r k) 1).trans (by rw [(idx0 t).2]; exact (congrArg (· + k.val) (Nat.zero_mul _)).trans (Nat.zero_add _))
theorem emb1 (t : Fin cfg0.N) (k : Fin 8192) (l : Fin 512) : (win0_1.rect t).emb (ix2 k l) = ix2 k (col t l) := by
  funext a; apply Fin.ext
  match a with
  | ⟨0, _⟩ => exact (win0_1.rect_emb_val t (ix2 k l) 0).trans (by rw [(idx1 t).1]; exact (congrArg (· + k.val) (Nat.zero_mul _)).trans (Nat.zero_add _))
  | ⟨1, _⟩ => exact (win0_1.rect_emb_val t (ix2 k l) 1).trans (by rw [(idx1 t).2]; rfl)
theorem emb2 (t : Fin cfg0.N) (l : Fin 512) : (win0_2.rect t).emb (ix2 (0 : Fin 1) l) = ix2 (0 : Fin 1) (col t l) := by
  funext a; apply Fin.ext
  match a with
  | ⟨0, _⟩ => exact (win0_2.rect_emb_val t (ix2 (0 : Fin 1) l) 0).trans (by rw [(idx2 t).1]; exact (congrArg (· + 0) (Nat.zero_mul _)).trans (Nat.zero_add _))
  | ⟨1, _⟩ => exact (win0_2.rect_emb_val t (ix2 (0 : Fin 1) l) 1).trans (by rw [(idx2 t).2]; rfl)
theorem emb3 (t : Fin cfg0.N) (r : Fin 128) (l : Fin 512) : (win0_3.rect t).emb (ix2 r l) = ix2 r (col t l) := by
  funext a; apply Fin.ext
  match a with
  | ⟨0, _⟩ => exact (win0_3.rect_emb_val t (ix2 r l) 0).trans (by rw [(idx3 t).1]; exact (congrArg (· + r.val) (Nat.zero_mul _)).trans (Nat.zero_add _))
  | ⟨1, _⟩ => exact (win0_3.rect_emb_val t (ix2 r l) 1).trans (by rw [(idx3 t).2]; rfl)

/-! ## The whole array -/

/-- The activations as the launch finds them, -/
abbrev XV (c : Dev nD) : FVec Ideal S128x8192 .bf16 := V m c main_v0
/-- the weight, -/
abbrev WV (c : Dev nD) : IVec S8192x8192 8 := V m c main_arg1
/-- the scales, -/
abbrev SV (c : Dev nD) : FVec Ideal S1x8192 .f32 := V m c main_v1
/-- and the layer of the three. -/
abbrev G (c : Dev nD) : Buf (Elt Ideal) ((c : Thread nD τ).loc main_v2) :=
  scaled (XV m c) (WV m c) (SV m c)

/-- What point `t` writes back is block `t` of the whole-array function. -/
theorem flushed_eq (c : Dev nD) (t : Fin cfg0.N) :
    (dats m 0 c).flushed 3 t = (win0_3.blk t).view.read (Elt Ideal) (G m c) := by
  show (cfg0.win 3).cut (grid0.coords t) ((dats m 0 c).after 3 t) = _
  rw [after0_3]
  unfold out0_3
  rw [View.canon_unit_zero hz, View.ld_unit_zero hz, View.ld_unit_zero hz, View.ld_unit_zero hz]
  funext y
  obtain ⟨r, l, rfl⟩ : ∃ (r : Fin 128) (l : Fin 512), y = ix2 r l := ⟨y 0, y 1, eq_ix2 y⟩
  show k0_pay1 (F := Ideal) (iblk m c 0 t) (iblk m c 1 t) (iblk m c 2 t) (ix2 r l) = G m c ((win0_3.rect t).emb (ix2 r l))
  rw [pay_apply, emb3]
  show _ = (∑ k : Fin 8192, XV m c (ix2 r k) * (((WV m c (ix2 k (col t l))).toInt : ℝ) : EReal)) * SV m c (ix2 0 (col t l))
  have h0 (k : Fin 8192) : iblk m c 0 t (ix2 r k) = XV m c (ix2 r k) := congrArg (XV m c) (emb0 t r k)
  have h1 (k : Fin 8192) : iblk m c 1 t (ix2 k l) = WV m c (ix2 k (col t l)) := congrArg (WV m c) (emb1 t k l)
  have h2 : iblk m c 2 t (ix2 (0 : Fin 1) l) = SV m c (ix2 0 (col t l)) := congrArg (SV m c) (emb2 t l)
  exact congr (congrArg HMul.hMul (Finset.sum_congr rfl fun k _ => congr (congrArg HMul.hMul (h0 k))
    (congrArg (fun b : BitVec 8 => ((b.toInt : ℝ) : EReal)) (h1 k)))) h2

/-- The 16 blocks of 512 columns cover the result array. -/
theorem cover (i : S128x8192.Idx) :
    ∃ t : Fin cfg0.N, (cfg0.win 3).flush t = true ∧ i ∈ ((cfg0.win 3).blk t).view.set := by
  have h1 : (i 1 : Nat) < 8192 := (i 1).isLt
  have hN : cfg0.N = 16 := N_0
  refine ⟨⟨(i 1 : Nat) / 512, by omega⟩, flush0_3 _, ?_⟩
  generalize ht : (⟨(i 1 : Nat) / 512, _⟩ : Fin cfg0.N) = t
  have htv : t.val = (i 1 : Nat) / 512 := by rw [← ht]
  have e : (win0_3.blk t).view.emb (ix2 (⟨(i 0).val, (i 0).isLt⟩ : Fin 128) (⟨(i 1 : Nat) % 512, Nat.mod_lt _ (by decide)⟩ : Fin 512)) = i := by
    refine (emb3 t _ _).trans ?_
    funext a; apply Fin.ext
    match a with
    | ⟨0, _⟩ => rfl
    | ⟨1, _⟩ => show t.val * 512 + (i 1 : Nat) % 512 = (i 1 : Nat); omega
  rw [← e]
  exact View.emb_mem_set _ _

/-- THE RESULT ARRAY of the launch ends holding the layer of the arrays that the launch found. -/
theorem final_o (c : Dev nD) : (dats m 0 c).arrAt 3 cfg0.N = G m c :=
  (dats m 0 c).arrAt_eq_of_cover 3 (G m c) (fun t _ => flushed_eq m c t) cover

/-! ## The reshapes around the launch -/

/-- The activations reach the launch as a matrix, -/
theorem V_v0 (c : Dev nD) : V m c main_v0 = shapeCast S128x8192 (m ((c : Thread nD τ).loc main_arg0)) shapeCasts_S128x1x8192_S128x8192 := by
  unfold V V0
  simp only [hostOps0, List.flatten_cons, List.flatten_nil, List.append_nil, StableHlo.after_cons, StableHlo.after_nil]
  rw [StableHlo.reshape_result_ne' (h := by decide), StableHlo.reshape_result']
  rfl
/-- the scales as one row, -/
theorem V_v1 (c : Dev nD) : V m c main_v1 = shapeCast S1x8192 (m ((c : Thread nD τ).loc main_arg2)) shapeCasts_S8192_S1x8192 := by
  unfold V V0
  simp only [hostOps0, List.flatten_cons, List.flatten_nil, List.append_nil, StableHlo.after_cons, StableHlo.after_nil]
  rw [StableHlo.reshape_result', StableHlo.reshape_result_ne' (h := by decide)]
  rfl

/-- What the program returns: the layer of its arguments, as a three-axis array again. -/
def result (X : FVec Ideal S128x1x8192 .bf16) (W : IVec S8192x8192 8) (S : FVec Ideal S8192 .f32) : FVec Ideal S128x1x8192 .bf16 :=
  shapeCast S128x1x8192 (scaled (shapeCast S128x8192 X shapeCasts_S128x1x8192_S128x8192) W
    (shapeCast S1x8192 S shapeCasts_S8192_S1x8192)) shapeCasts_S128x8192_S128x1x8192

/-- and the array after the last reshape holds it. -/
theorem W_v3 (c : Dev nD) : Pipeline.afterTail₀ cfgs (dats m) 0 (V0 m) [hostOps1] c main_v3
    = result (m ((c : Thread nD τ).loc main_arg0)) (m ((c : Thread nD τ).loc main_arg1)) (m ((c : Thread nD τ).loc main_arg2)) := by
  unfold Pipeline.afterTail₀
  simp only [hostOps1, List.flatten_cons, List.flatten_nil, List.append_nil, StableHlo.after_cons, StableHlo.after_nil]
  rw [StableHlo.reshape_result']
  have e : Pipeline.withArrays (cfgs 0).spec c (V0 m c) (fun w => (dats m 0 c).arrAt w (cfgs 0).N) (Proc.devRef .tc main_v2) = G m c :=
    (Pipeline.withArrays_arr (cfgs 0).spec launch0.win.arr_inj c (V0 m c) _ 3).trans (final_o m c)
  rw [e]
  have e0 : XV m c = _ := V_v0 m c
  have e1 : WV m c = _ := V_main_arg1 m c
  have e2 : SV m c = _ := V_v1 m c
  unfold result G
  rw [e0, e1, e2]
  rfl

/-- THE RUN: the kernel's program ends with `result` of its arguments in its result array, the arguments unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h.1 c).2 main_v3 (Pipeline.mem_restRefs_of main_v3 (by decide) (by decide))).trans (W_v3 m c), h.2 c⟩)
    (θ_run_and (run_main m ρ) (unchanged m ρ))

end Cert.KernelIdeal.Hand

end
-- ==== Proof.ReferenceValue.lean ====
/-
  What the reference's result array holds after a run, at the ideal values: the weight read as numbers (its one
  gridless call), then the host's product, scaling and rounding of the three arguments.
-/
module

public import proofs.«01_k».proof.Defs
public import proofs.«01_k».proof.Proof.Gen.ReferenceIdeal.Frame
public import Idealize.ShloMosaic.Lib.Pipeline.Value
public import Idealize.ShloMosaic.Lib.Pointwise
public import Idealize.ShloMosaic.Lib.StableHlo.Run

@[expose] public section

noncomputable section

open Idealize.ShloMosaic Idealize.ShloMosaic.TcCoe Idealize.SL.Sem
open Idealize.ShloMosaic.Pipeline (Dat)
open scoped BigOperators

namespace Cert.ReferenceIdeal.Hand

open Cert.ReferenceIdeal Cert.ReferenceIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The gridless call: the weight as numbers -/

/-- The weight's numbers. -/
abbrev widened (c : Dev nD) : Buf (Elt Ideal) ((c : Thread nD τ).loc main_v0) :=
  sitofp (F := Ideal) .bf16 (V m c main_arg1 : IVec S8192x8192 8)

/-- The one point's block of either array starts at its first element. -/
theorem idx (t : Fin cfg0.N) : (∀ a, win0_0.index t a = 0) ∧ (∀ a, win0_1.index t a = 0) := by
  rcases fin_N0 t with rfl; decide +kernel

theorem emb0 (t : Fin cfg0.N) (y : S8192x8192.Idx) : (win0_0.rect t).emb y = y :=
  funext fun a => Fin.ext (win0_0.rect_emb_val_of_index_zero t a ((idx t).1 a) y)
theorem emb1 (t : Fin cfg0.N) (y : S8192x8192.Idx) : (win0_1.rect t).emb y = y :=
  funext fun a => Fin.ext (win0_1.rect_emb_val_of_index_zero t a ((idx t).2 a) y)

/-- What the one point writes back is the whole array of numbers. -/
theorem flushed_eq (c : Dev nD) (t : Fin cfg0.N) :
    (dats m 0 c).flushed 1 t = (win0_1.blk t).view.read (Elt Ideal) (widened m c) := by
  show (cfg0.win 1).cut (grid0.coords t) ((dats m 0 c).after 1 t) = _
  rw [after0_1]
  unfold out0_1
  rw [View.canon_unit_zero hz, View.ld_unit_zero hz]
  funext y
  show FloatOps.sitofp (F := Ideal) .bf16 ((V m c main_arg1 : IVec S8192x8192 8) ((win0_0.rect t).emb y))
    = FloatOps.sitofp (F := Ideal) .bf16 ((V m c main_arg1 : IVec S8192x8192 8) ((win0_1.rect t).emb y))
  exact congrArg (fun i => FloatOps.sitofp (F := Ideal) .bf16 ((V m c main_arg1 : IVec S8192x8192 8) i)) ((emb0 t y).trans (emb1 t y).symm)

/-- Its block is the whole array. -/
theorem cover (i : S8192x8192.Idx) :
    ∃ t : Fin cfg0.N, (cfg0.win 1).flush t = true ∧ i ∈ ((cfg0.win 1).blk t).view.set := by
  refine ⟨t0_0, flush0_1 _, ?_⟩
  have e : (win0_1.blk t0_0).view.emb i = i := emb1 t0_0 i
  have h := View.emb_mem_set (win0_1.blk t0_0).view i
  rw [e] at h
  exact h

/-- The call's result array ends holding the weight's numbers. -/
theorem final_o (c : Dev nD) : (dats m 0 c).arrAt 1 cfg0.N = widened m c :=
  (dats m 0 c).arrAt_eq_of_cover 1 (widened m c) (fun t _ => flushed_eq m c t) cover

/-! ## The host's lines after it -/

/-- What the program returns, as the host's operations on its arguments: the product with the weight's numbers, scaled
    column by column, rounded. -/
def result (X : FVec Ideal S128x1x8192 .bf16) (W : IVec S8192x8192 8) (S : FVec Ideal S8192 .f32) : FVec Ideal S128x1x8192 .bf16 :=
  truncf .bf16 (mulf (Host.dotGeneral dot_S128x1x8192_S8192x8192_S128x1x8192_2_0_01_1_n_n none X (sitofp .bf16 W : FVec Ideal S8192x8192 .bf16))
    (broadcastInDim S128x1x8192 ![0, 1, 2] bcast_S1x1x8192_S128x1x8192_0_1_2
      (broadcastInDim S1x1x8192 ![2] bcast_S8192_S1x1x8192_2 S))) bitsLt_bf16_f32

/-- The same at an index: the sum over the contracted axis, times the column's scale. -/
theorem result_apply (X : FVec Ideal S128x1x8192 .bf16) (W : IVec S8192x8192 8) (S : FVec Ideal S8192 .f32)
    (r : Fin 128) (q : Fin 1) (l : Fin 8192) :
    result X W S (ix3 r q l) = (∑ k : Fin 8192, X (ix3 r q k) * (((W (ix2 k l)).toInt : ℝ) : EReal)) * S (ix1 l) := by
  pointwise [result]
  rfl

/-- The result array after the host's lines. -/
theorem W_v5 (c : Dev nD) : Pipeline.afterTail₀ cfgs (dats m) 0 (V0 m) [hostOps1] c main_v5
    = result (m ((c : Thread nD τ).loc main_arg0)) (m ((c : Thread nD τ).loc main_arg1)) (m ((c : Thread nD τ).loc main_arg2)) := by
  unfold Pipeline.afterTail₀
  have e : Pipeline.withArrays (cfgs 0).spec c (V0 m c) (fun w => (dats m 0 c).arrAt w (cfgs 0).N) (Proc.devRef .tc main_v0) = widened m c :=
    (Pipeline.withArrays_arr (cfgs 0).spec launch0.win.arr_inj c (V0 m c) _ 1).trans (final_o m c)
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e1 : V m c main_arg1 = m ((c : Thread nD τ).loc main_arg1) := V_main_arg1 m c
  generalize Pipeline.withArrays (cfgs 0).spec c (V0 m c) (fun w => (dats m 0 c).arrAt w (cfgs 0).N) = U at e e0 e2 ⊢
  simp only [hostOps1, List.flatten_cons, List.flatten_nil, List.append_nil, StableHlo.after_cons, StableHlo.after_nil]
  rw [StableHlo.unary_result', StableHlo.binary_result', StableHlo.unary_result', StableHlo.unary_result',
    StableHlo.unary_result_ne' (h := by decide), StableHlo.unary_result_ne' (h := by decide), StableHlo.binary_result',
    StableHlo.binary_result_ne' (h := by decide), e, e0, e2]
  unfold result widened
  rw [e1]

/-- THE RUN: the reference's program ends with `result` of its arguments in its result array, the arguments unchanged. -/
theorem run : θ_run defs (onTc (τ := τ) (main (F := Ideal))) ⟨m, fun _ => 0, ρ⟩ fun r => ∀ c : Dev nD,
      r.2.mem ((c : Thread nD τ).loc main_v5)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h.1 c).2 main_v5 (Pipeline.mem_restRefs_of main_v5 (by decide) (by decide))).trans (W_v5 m c), h.2 c⟩)
    (θ_run_and (run_main m ρ) (unchanged m ρ))

end Cert.ReferenceIdeal.Hand

end
-- ==== Proof.Equation.lean ====
/-
  THE EQUATION: over the extended reals the kernel's blocked layer and the reference's plain product are the same
  function of the three arguments, element by element.
-/
module

public import proofs.«01_k».proof.Proof.KernelValue
public import proofs.«01_k».proof.Proof.ReferenceValue

@[expose] public section

noncomputable section

open Idealize.ShloMosaic
open scoped BigOperators

namespace Cert.Proof

/-- The kernel's result at an index: the sum over the contracted axis, times the column's scale. -/
theorem kernel_apply (X : FVec Ideal ⟨3, ![128, 1, 8192]⟩ .bf16) (W : IVec ⟨2, ![8192, 8192]⟩ 8) (S : FVec Ideal ⟨1, ![8192]⟩ .f32)
    (r : Fin 128) (q : Fin 1) (l : Fin 8192) :
    Cert.KernelIdeal.Hand.result X W S (ix3 r q l) = (∑ k : Fin 8192, X (ix3 r q k) * (((W (ix2 k l)).toInt : ℝ) : EReal)) * S (ix1 l) := by
  obtain rfl : q = 0 := Subsingleton.elim _ _
  pointwise [Cert.KernelIdeal.Hand.result, Cert.KernelIdeal.Hand.scaled]

/-- The two results are one array. -/
theorem result_eq (X : FVec Ideal ⟨3, ![128, 1, 8192]⟩ .bf16) (W : IVec ⟨2, ![8192, 8192]⟩ 8) (S : FVec Ideal ⟨1, ![8192]⟩ .f32) :
    Cert.ReferenceIdeal.Hand.result X W S = Cert.KernelIdeal.Hand.result X W S := by
  funext i
  obtain ⟨r, q, l, rfl⟩ : ∃ (r : Fin 128) (q : Fin 1) (l : Fin 8192), i = ix3 r q l := ⟨i 0, i 1, i 2, eq_ix3 i⟩
  rw [kernel_apply, Cert.ReferenceIdeal.Hand.result_apply]

end Cert.Proof

end
-- ==== Proof.lean ====
/-
  The proof of `Cert.Claim`: the three frames (generated), the ideal program (no rewrites), and the equality of the
  kernel's result with the reference's over the extended reals, from the two runs (Proof/KernelValue.lean,
  Proof/ReferenceValue.lean) and the equation between their results (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame

public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and the reference compute the same function over the extended reals: both runs end with the layer's
    result of arguments that agree. -/
theorem algebraic : Cert.algebraic_KernelIdeal_ReferenceIdeal
    (hKernelIdeal := Cert.KernelIdeal.Gen.facts) (hReferenceIdeal := Cert.ReferenceIdeal.Gen.facts) := by
  intro m ρ m' ρ' _ hagree
  refine ⟨fun c => Cert.KernelIdeal.Hand.result (m ((c.tc : Thread _ _).loc Cert.KernelIdeal.main_arg0))
    (m ((c.tc : Thread _ _).loc Cert.KernelIdeal.main_arg1)) (m ((c.tc : Thread _ _).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2]
  exact result_eq _ _ _

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
